-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2000000x2 : Shape := ⟨2, ![2000000, 2]⟩
abbrev S5000x3x5x2 : Shape := ⟨4, ![5000, 3, 5, 2]⟩
abbrev S5000x3 : Shape := ⟨2, ![5000, 3]⟩
abbrev S_ : Shape := ⟨0, ![]⟩

class Facts : Prop where
  bcast_S_S2000000x2 : S_.BroadcastsInDim S2000000x2 (![] : Fin 0 → Fin S2000000x2.rank)
  reducesTo_S2000000x2_S_d0_1 : S2000000x2.ReducesTo [0, 1] S_
  h_S_ : 0 < S_.numel
  bcast_S_S5000x3x5x2 : S_.BroadcastsInDim S5000x3x5x2 (![] : Fin 0 → Fin S5000x3x5x2.rank)
  reducesTo_S5000x3x5x2_S_d0_1_2_3 : S5000x3x5x2.ReducesTo [0, 1, 2, 3] S_

variable [Facts]

def fn {F : FTy → Type} [FloatOps F] (main_arg0 : FVec F S2000000x2 .f32) (main_arg1 : FVec F S5000x3x5x2 .f32) (main_arg2 : FVec F S5000x3 .f32) : IVec S_ 1 :=
  let main_v0 : FVec F S2000000x2 .f32 := Host.absf main_arg0
  let main_cst : FVec F S_ .f32 := constant S_ .f32 0x7F800000#32
  let main_v1 : FVec F S2000000x2 .f32 := broadcastInDim S2000000x2 ![] bcast_S_S2000000x2 main_cst
  let main_v2 : IVec S2000000x2 1 := cmpf .olt main_v0 main_v1
  let main_c : IVec S_ 1 := constantI S_ 1 1#1
  let main_v3 : IVec S_ 1 := (fun x v => Host.reduce IntOp.andi x v reducesTo_S2000000x2_S_d0_1 h_S_) main_v2 main_c
  let main_v4 : FVec F S5000x3x5x2 .f32 := Host.absf main_arg1
  let main_cst_0 : FVec F S_ .f32 := constant S_ .f32 0x7F800000#32
  let main_v5 : FVec F S5000x3x5x2 .f32 := broadcastInDim S5000x3x5x2 ![] bcast_S_S5000x3x5x2 main_cst_0
  let main_v6 : IVec S5000x3x5x2 1 := cmpf .olt main_v4 main_v5
  let main_c_1 : IVec S_ 1 := constantI S_ 1 1#1
  let main_v7 : IVec S_ 1 := (fun x v => Host.reduce IntOp.andi x v reducesTo_S5000x3x5x2_S_d0_1_2_3 h_S_) main_v6 main_c_1
  let main_v8 : IVec S_ 1 := andi main_v3 main_v7
  main_v8
-- ==== Kernel.lean ====
abbrev S2000000x2 : Shape := ⟨2, ![2000000, 2]⟩
abbrev S5000x3x5x2 : Shape := ⟨4, ![5000, 3, 5, 2]⟩
abbrev S5000x3 : Shape := ⟨2, ![5000, 3]⟩
abbrev S2x2000000 : Shape := ⟨2, ![2, 2000000]⟩
abbrev S2x25x5x16000 : Shape := ⟨4, ![2, 25, 5, 16000]⟩
abbrev S5000x3x5x1 : Shape := ⟨4, ![5000, 3, 5, 1]⟩
abbrev S5000x3x5 : Shape := ⟨3, ![5000, 3, 5]⟩
abbrev S5000x3x1 : Shape := ⟨3, ![5000, 3, 1]⟩
abbrev S5000x3x11 : Shape := ⟨3, ![5000, 3, 11]⟩
abbrev S50x100x33 : Shape := ⟨3, ![50, 100, 33]⟩
abbrev S50x33x100 : Shape := ⟨3, ![50, 33, 100]⟩
abbrev S25x2x33x100 : Shape := ⟨4, ![25, 2, 33, 100]⟩
abbrev S16000 : Shape := ⟨1, ![16000]⟩
abbrev S1x16000 : Shape := ⟨2, ![1, 16000]⟩
abbrev S_ : Shape := ⟨0, ![]⟩
abbrev S100 : Shape := ⟨1, ![100]⟩
abbrev S100x1 : Shape := ⟨2, ![100, 1]⟩
abbrev S100x16000 : Shape := ⟨2, ![100, 16000]⟩
abbrev S3x25x5x16000 : Shape := ⟨4, ![3, 25, 5, 16000]⟩
abbrev S2x1x5x16000 : Shape := ⟨4, ![2, 1, 5, 16000]⟩
abbrev S1x2x33x100 : Shape := ⟨4, ![1, 2, 33, 100]⟩
abbrev S3x1x5x16000 : Shape := ⟨4, ![3, 1, 5, 16000]⟩
abbrev S1x1x5x16000 : Shape := ⟨4, ![1, 1, 5, 16000]⟩
abbrev S5x16000 : Shape := ⟨2, ![5, 16000]⟩
abbrev S1x1x33x100 : Shape := ⟨4, ![1, 1, 33, 100]⟩
abbrev S33x100 : Shape := ⟨2, ![33, 100]⟩
abbrev S33x16000 : Shape := ⟨2, ![33, 16000]⟩

abbrev nBuf : Space → Nat
  | .hbm => 63
  | .vmem => 7
  | .smem => 0
  | _ => 0

abbrev bufTy : (tb : Table) → Fin (tcTables nBuf tb) → BufTy
  | .hbm, ⟨0, _⟩ => ⟨S2000000x2, .f32⟩
  | .hbm, ⟨1, _⟩ => ⟨S5000x3x5x2, .f32⟩
  | .hbm, ⟨2, _⟩ => ⟨S5000x3, .f32⟩
  | .hbm, ⟨3, _⟩ => ⟨S2x2000000, .f32⟩
  | .hbm, ⟨4, _⟩ => ⟨S2x25x5x16000, .f32⟩
  | .hbm, ⟨5, _⟩ => ⟨S5000x3x5x1, .f32⟩
  | .hbm, ⟨6, _⟩ => ⟨S5000x3x5, .f32⟩
  | .hbm, ⟨7, _⟩ => ⟨S5000x3x5x1, .f32⟩
  | .hbm, ⟨8, _⟩ => ⟨S5000x3x5, .f32⟩
  | .hbm, ⟨9, _⟩ => ⟨S5000x3x1, .f32⟩
  | .hbm, ⟨10, _⟩ => ⟨S5000x3x11, .f32⟩
  | .hbm, ⟨11, _⟩ => ⟨S50x100x33, .f32⟩
  | .hbm, ⟨12, _⟩ => ⟨S50x33x100, .f32⟩
  | .hbm, ⟨13, _⟩ => ⟨S25x2x33x100, .f32⟩
  | .hbm, ⟨14, _⟩ => ⟨S16000, .i32⟩
  | .hbm, ⟨15, _⟩ => ⟨S1x16000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S1x16000, .i32⟩
  | .hbm, ⟨23, _⟩ => ⟨S1x16000, .i32⟩
  | .hbm, ⟨24, _⟩ => ⟨S_, .i32⟩
  | .hbm, ⟨25, _⟩ => ⟨S1x16000, .i32⟩
  | .hbm, ⟨26, _⟩ => ⟨S1x16000, .i1⟩
  | .hbm, ⟨27, _⟩ => ⟨S_, .i32⟩
  | .hbm, ⟨28, _⟩ => ⟨S1x16000, .i32⟩
  | .hbm, ⟨29, _⟩ => ⟨S1x16000, .i1⟩
  | .hbm, ⟨30, _⟩ => ⟨S_, .i32⟩
  | .hbm, ⟨31, _⟩ => ⟨S_, .i1⟩
  | .hbm, ⟨32, _⟩ => ⟨S1x16000, .i1⟩
  | .hbm, ⟨33, _⟩ => ⟨S1x16000, .i1⟩
  | .hbm, ⟨34, _⟩ => ⟨S1x16000, .i1⟩
  | .hbm, ⟨35, _⟩ => ⟨S1x16000, .i32⟩
  | .hbm, ⟨36, _⟩ => ⟨S1x16000, .i32⟩
  | .hbm, ⟨37, _⟩ => ⟨S1x16000, .i32⟩
  | .hbm, ⟨38, _⟩ => ⟨S_, .i32⟩
  | .hbm, ⟨39, _⟩ => ⟨S_, .i32⟩
  | .hbm, ⟨40, _⟩ => ⟨S1x16000, .i32⟩
  | .hbm, ⟨41, _⟩ => ⟨S1x16000, .i32⟩
  | .hbm, ⟨42, _⟩ => ⟨S1x16000, .i32⟩
  | .hbm, ⟨43, _⟩ => ⟨S_, .i32⟩
  | .hbm, ⟨44, _⟩ => ⟨S1x16000, .i32⟩
  | .hbm, ⟨45, _⟩ => ⟨S1x16000, .i1⟩
  | .hbm, ⟨46, _⟩ => ⟨S1x16000, .i32⟩
  | .hbm, ⟨47, _⟩ => ⟨S1x16000, .i32⟩
  | .hbm, ⟨48, _⟩ => ⟨S_, .i32⟩
  | .hbm, ⟨49, _⟩ => ⟨S1x16000, .i32⟩
  | .hbm, ⟨50, _⟩ => ⟨S1x16000, .i1⟩
  | .hbm, ⟨51, _⟩ => ⟨S1x16000, .i1⟩
  | .hbm, ⟨52, _⟩ => ⟨S_, .i32⟩
  | .hbm, ⟨53, _⟩ => ⟨S1x16000, .i32⟩
  | .hbm, ⟨54, _⟩ => ⟨S1x16000, .i32⟩
  | .hbm, ⟨55, _⟩ => ⟨S1x16000, .i32⟩
  | .hbm, ⟨56, _⟩ => ⟨S100, .i32⟩
  | .hbm, ⟨57, _⟩ => ⟨S100x1, .i32⟩
  | .hbm, ⟨58, _⟩ => ⟨S100x16000, .i32⟩
  | .hbm, ⟨59, _⟩ => ⟨S100x16000, .i32⟩
  | .hbm, ⟨60, _⟩ => ⟨S100x16000, .i1⟩
  | .hbm, ⟨61, _⟩ => ⟨S100x16000, .bf16⟩
  | .hbm, ⟨62, _⟩ => ⟨S3x25x5x16000, .f32⟩
  | .local _ .vmem, ⟨0, _⟩ => ⟨S2x1x5x16000, .f32⟩
  | .local _ .vmem, ⟨1, _⟩ => ⟨S2x1x5x16000, .f32⟩
  | .local _ .vmem, ⟨2, _⟩ => ⟨S1x2x33x100, .f32⟩
  | .local _ .vmem, ⟨3, _⟩ => ⟨S1x2x33x100, .f32⟩
  | .local _ .vmem, ⟨4, _⟩ => ⟨S100x16000, .bf16⟩
  | .local _ .vmem, ⟨5, _⟩ => ⟨S3x1x5x16000, .f32⟩
  | .local _ .vmem, ⟨6, _⟩ => ⟨S3x1x5x16000, .f32⟩
  | _, _ => ⟨S2000000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_c_1 : Ref sig .tc := ⟨.hbm, 24, rfl⟩
abbrev main_call0_v5 : Ref sig .tc := ⟨.hbm, 25, rfl⟩
abbrev main_call0_v6 : Ref sig .tc := ⟨.hbm, 26, rfl⟩
abbrev main_call0_c_2 : Ref sig .tc := ⟨.hbm, 27, rfl⟩
abbrev main_call0_v7 : Ref sig .tc := ⟨.hbm, 28, rfl⟩
abbrev main_call0_v8 : Ref sig .tc := ⟨.hbm, 29, rfl⟩
abbrev main_call0_c_3 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_v13 : Ref sig .tc := ⟨.hbm, 37, rfl⟩
abbrev main_c_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S2x1x5x16000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2x33x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S100x16000 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x1x5x16000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2000000x2 : Shape := ⟨2, ![2000000, 2]⟩
abbrev S5000x3x5x2 : Shape := ⟨4, ![5000, 3, 5, 2]⟩
abbrev S5000x3 : Shape := ⟨2, ![5000, 3]⟩
abbrev S5 : Shape := ⟨1, ![5]⟩
abbrev S2000000x1 : Shape := ⟨2, ![2000000, 1]⟩
abbrev S2000000 : Shape := ⟨1, ![2000000]⟩
abbrev S1x5 : Shape := ⟨2, ![1, 5]⟩
abbrev S2000000x5 : Shape := ⟨2, ![2000000, 5]⟩
abbrev S_ : Shape := ⟨0, ![]⟩
abbrev S1 : Shape := ⟨1, ![1]⟩
abbrev S1x1 : Shape := ⟨2, ![1, 1]⟩
abbrev S2000000x3x5x2 : Shape := ⟨4, ![2000000, 3, 5, 2]⟩
abbrev S2000000x3 : Shape := ⟨2, ![2000000, 3]⟩
abbrev S2000000x3x5x1 : Shape := ⟨4, ![2000000, 3, 5, 1]⟩
abbrev S2000000x3x5 : Shape := ⟨3, ![2000000, 3, 5]⟩
abbrev S2000000x1x5 : Shape := ⟨3, ![2000000, 1, 5]⟩
abbrev S3x2000000 : Shape := ⟨2, ![3, 2000000]⟩
abbrev S3x25x5x16000 : Shape := ⟨4, ![3, 25, 5, 16000]⟩

abbrev nBuf : Space → Nat
  | .hbm => 163
  | .vmem => 0
  | .smem => 0
  | _ => 0

abbrev hbmTy0_0 (i : Nat) : BufTy := match i % 128 with
  | 0 => ⟨S2000000x2, .f32⟩
  | 1 => ⟨S5000x3x5x2, .f32⟩
  | 2 => ⟨S5000x3, .f32⟩
  | 3 => ⟨S5, .f32⟩
  | 4 => ⟨S2000000x1, .f32⟩
  | 5 => ⟨S2000000, .f32⟩
  | 6 => ⟨S2000000x1, .f32⟩
  | 7 => ⟨S1x5, .f32⟩
  | 8 => ⟨S2000000x5, .f32⟩
  | 9 => ⟨S2000000x5, .f32⟩
  | 10 => ⟨S2000000x5, .f32⟩
  | 11 => ⟨S2000000x1, .f32⟩
  | 12 => ⟨S2000000, .f32⟩
  | 13 => ⟨S2000000x1, .f32⟩
  | 14 => ⟨S1x5, .f32⟩
  | 15 => ⟨S2000000x5, .f32⟩
  | 16 => ⟨S2000000x5, .f32⟩
  | 17 => ⟨S2000000x5, .f32⟩
  | 18 => ⟨S2000000, .i32⟩
  | 19 => ⟨S_, .i32⟩
  | 20 => ⟨S_, .i32⟩
  | 21 => ⟨S2000000, .i32⟩
  | 22 => ⟨S2000000, .i32⟩
  | 23 => ⟨S2000000, .i32⟩
  | 24 => ⟨S_, .i32⟩
  | 25 => ⟨S2000000, .i32⟩
  | 26 => ⟨S2000000, .i1⟩
  | 27 => ⟨S2000000, .i32⟩
  | 28 => ⟨S2000000, .i32⟩
  | 29 => ⟨S_, .i32⟩
  | 30 => ⟨S2000000, .i32⟩
  | 31 => ⟨S2000000, .i1⟩
  | 32 => ⟨S2000000, .i1⟩
  | 33 => ⟨S_, .i32⟩
  | 34 => ⟨S2000000, .i32⟩
  | 35 => ⟨S2000000, .i32⟩
  | 36 => ⟨S2000000, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S2000000, .i32⟩
  | 44 => ⟨S2000000, .i32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i1⟩
  | 51 => ⟨S_, .i32⟩
  | 52 => ⟨S_, .i1⟩
  | 53 => ⟨S2000000, .i1⟩
  | 54 => ⟨S2000000, .i1⟩
  | 55 => ⟨S2000000, .i1⟩
  | 56 => ⟨S2000000, .i32⟩
  | 57 => ⟨S2000000, .i32⟩
  | 58 => ⟨S2000000, .i32⟩
  | 59 => ⟨S_, .i32⟩
  | 60 => ⟨S_, .i32⟩
  | 61 => ⟨S2000000, .i32⟩
  | 62 => ⟨S2000000, .i32⟩
  | 63 => ⟨S2000000, .i32⟩
  | 64 => ⟨S_, .i32⟩
  | 65 => ⟨S2000000, .i32⟩
  | 66 => ⟨S2000000, .i1⟩
  | 67 => ⟨S2000000, .i32⟩
  | 68 => ⟨S2000000, .i32⟩
  | 69 => ⟨S_, .i32⟩
  | 70 => ⟨S2000000, .i32⟩
  | 71 => ⟨S2000000, .i1⟩
  | 72 => ⟨S2000000, .i1⟩
  | 73 => ⟨S_, .i32⟩
  | 74 => ⟨S2000000, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S_, .i32⟩
  | 81 => ⟨S_, .i32⟩
  | 82 => ⟨S2000000, .i32⟩
  | 83 => ⟨S2000000, .i32⟩
  | 84 => ⟨S2000000, .i32⟩
  | 85 => ⟨S_, .i32⟩
  | 86 => ⟨S2000000, .i32⟩
  | 87 => ⟨S2000000, .i1⟩
  | 88 => ⟨S2000000, .i32⟩
  | 89 => ⟨S2000000, .i32⟩
  | 90 => ⟨S_, .i32⟩
  | 91 => ⟨S2000000, .i32⟩
  | 92 => ⟨S2000000, .i1⟩
  | 93 => ⟨S2000000, .i1⟩
  | 94 => ⟨S_, .i32⟩
  | 95 => ⟨S2000000, .i32⟩
  | 96 => ⟨S2000000, .i32⟩
  | 97 => ⟨S2000000, .i32⟩
  | 98 => ⟨S2000000, .i32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S1, .i32⟩
  | 108 => ⟨S_, .i32⟩
  | 109 => ⟨S2000000x1, .i32⟩
  | 110 => ⟨S2000000x1, .i1⟩
  | 111 => ⟨S1x1, .i32⟩
  | 112 => ⟨S2000000x1, .i32⟩
  | 113 => ⟨S2000000x1, .i1⟩
  | 114 => ⟨S2000000x1, .i1⟩
  | 115 => ⟨S_, .i1⟩
  | 116 => ⟨S2000000, .i1⟩
  | 117 => ⟨S2000000x3x5x2, .f32⟩
  | 118 => ⟨S2000000x3x5x2, .i1⟩
  | 119 => ⟨S_, .f32⟩
  | 120 => ⟨S2000000x3x5x2, .f32⟩
  | 121 => ⟨S2000000x3x5x2, .f32⟩
  | 122 => ⟨S_, .i32⟩
  | 123 => ⟨S2000000, .i32⟩
  | 124 => ⟨S2000000, .i1⟩
  | 125 => ⟨S_, .i32⟩
  | 126 => ⟨S2000000, .i32⟩
  | 127 => ⟨S2000000, .i32⟩
  | _ => ⟨S2000000x2, .f32⟩

abbrev hbmTy0_1 (i : Nat) : BufTy := match i % 128 with
  | 0 => ⟨S2000000, .i32⟩
  | 1 => ⟨S2000000x1, .i32⟩
  | 2 => ⟨S1, .i32⟩
  | 3 => ⟨S_, .i32⟩
  | 4 => ⟨S2000000x1, .i32⟩
  | 5 => ⟨S2000000x1, .i1⟩
  | 6 => ⟨S1x1, .i32⟩
  | 7 => ⟨S2000000x1, .i32⟩
  | 8 => ⟨S2000000x1, .i1⟩
  | 9 => ⟨S2000000x1, .i1⟩
  | 10 => ⟨S_, .i1⟩
  | 11 => ⟨S2000000, .i1⟩
  | 12 => ⟨S2000000x3, .f32⟩
  | 13 => ⟨S2000000x3, .i1⟩
  | 14 => ⟨S_, .f32⟩
  | 15 => ⟨S2000000x3, .f32⟩
  | 16 => ⟨S2000000x3, .f32⟩
  | 17 => ⟨S2000000x3x5x1, .f32⟩
  | 18 => ⟨S2000000x3x5, .f32⟩
  | 19 => ⟨S2000000x1x5, .f32⟩
  | 20 => ⟨S2000000x3x5, .f32⟩
  | 21 => ⟨S2000000x3x5, .f32⟩
  | 22 => ⟨S_, .f32⟩
  | 23 => ⟨S2000000x3, .f32⟩
  | 24 => ⟨S2000000x3x5x1, .f32⟩
  | 25 => ⟨S2000000x3x5, .f32⟩
  | 26 => ⟨S2000000x1x5, .f32⟩
  | 27 => ⟨S2000000x3x5, .f32⟩
  | 28 => ⟨S2000000x3x5, .f32⟩
  | 29 => ⟨S_, .f32⟩
  | 30 => ⟨S2000000x3, .f32⟩
  | 31 => ⟨S2000000x3, .f32⟩
  | 32 => ⟨S2000000x3, .f32⟩
  | 33 => ⟨S3x2000000, .f32⟩
  | 34 => ⟨S3x25x5x16000, .f32⟩
  | _ => ⟨S2000000x2, .f32⟩

abbrev hbmTy (i : Nat) : BufTy := match i / 128 with
  | 0 => hbmTy0_0 i
  | 1 => hbmTy0_1 i
  | _ => ⟨S2000000x2, .f32⟩

abbrev bufTy : (tb : Table) → Fin (tcTables nBuf tb) → BufTy
  | .hbm, ⟨i, _⟩ => hbmTy i
  | _, _ => ⟨S2000000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v16 : Ref sig .tc := ⟨.hbm, 36, rfl⟩
abbrev main_c_0 : Ref sig .tc := ⟨.hbm, 37, rfl⟩
abbrev main_call1_v0 : Ref sig .tc := ⟨.hbm, 38, rfl⟩
abbrev main_call1_c : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_c_1 : Ref sig .tc := ⟨.hbm, 45, rfl⟩
abbrev main_call1_v5 : Ref sig .tc := ⟨.hbm, 46, rfl⟩
abbrev main_call1_v6 : Ref sig .tc := ⟨.hbm, 47, rfl⟩
abbrev main_call1_c_2 : Ref sig .tc := ⟨.hbm, 48, rfl⟩
abbrev main_call1_v7 : Ref sig .tc := ⟨.hbm, 49, rfl⟩
abbrev main_call1_v8 : Ref sig .tc := ⟨.hbm, 50, rfl⟩
abbrev main_call1_c_3 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_v17 : Ref sig .tc := ⟨.hbm, 58, rfl⟩
abbrev main_c_1 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_c : Ref sig .tc := ⟨.hbm, 69, rfl⟩
abbrev main_call2_v9 : Ref sig .tc := ⟨.hbm, 70, rfl⟩
abbrev main_call2_v10 : Ref sig .tc := ⟨.hbm, 71, rfl⟩
abbrev main_call2_v11 : Ref sig .tc := ⟨.hbm, 72, rfl⟩
abbrev main_call2_c_0 : Ref sig .tc := ⟨.hbm, 73, rfl⟩
abbrev main_call2_v12 : Ref sig .tc := ⟨.hbm, 74, rfl⟩
abbrev main_call2_v13 : Ref sig .tc := ⟨.hbm, 75, rfl⟩
abbrev main_v18 : Ref sig .tc := ⟨.hbm, 76, rfl⟩
abbrev main_c_2 : Ref sig .tc := ⟨.hbm, 77, rfl⟩
abbrev main_v19 : Ref sig .tc := ⟨.hbm, 78, rfl⟩
abbrev main_v20 : Ref sig .tc := ⟨.hbm, 79, rfl⟩
abbrev main_c_3 : Ref sig .tc := ⟨.hbm, 80, rfl⟩
abbrev main_call3_v0 : Ref sig .tc := ⟨.hbm, 81, rfl⟩
abbrev main_call3_v1 : Ref sig .tc := ⟨.hbm, 82, rfl⟩
abbrev main_call3_v2 : Ref sig .tc := ⟨.hbm, 83, rfl⟩
abbrev main_call3_v3 : Ref sig .tc := ⟨.hbm, 84, rfl⟩
abbrev main_call3_v4 : Ref sig .tc := ⟨.hbm, 85, rfl⟩
abbrev main_call3_v5 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_c : Ref sig .tc := ⟨.hbm, 90, rfl⟩
abbrev main_call3_v9 : Ref sig .tc := ⟨.hbm, 91, rfl⟩
abbrev main_call3_v10 : Ref sig .tc := ⟨.hbm, 92, rfl⟩
abbrev main_call3_v11 : Ref sig .tc := ⟨.hbm, 93, rfl⟩
abbrev main_call3_c_0 : Ref sig .tc := ⟨.hbm, 94, rfl⟩
abbrev main_call3_v12 : Ref sig .tc := ⟨.hbm, 95, rfl⟩
abbrev main_call3_v13 : Ref sig .tc := ⟨.hbm, 96, rfl⟩
abbrev main_v21 : Ref sig .tc := ⟨.hbm, 97, rfl⟩
abbrev main_v22 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_v14 : Ref sig .tc := ⟨.hbm, 118, rfl⟩
abbrev main_call4_cst : Ref sig .tc := ⟨.hbm, 119, rfl⟩
abbrev main_call4_v15 : Ref sig .tc := ⟨.hbm, 120, rfl⟩
abbrev main_v23 : Ref sig .tc := ⟨.hbm, 121, rfl⟩
abbrev main_call5_c : Ref sig .tc := ⟨.hbm, 122, rfl⟩
abbrev main_call5_v0 : Ref sig .tc := ⟨.hbm, 123, rfl⟩
abbrev main_call5_v1 : Ref sig .tc := ⟨.hbm, 124, rfl⟩
abbrev main_call5_c_0 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_call5_v5 : Ref sig .tc := ⟨.hbm, 129, rfl⟩
abbrev main_call5_c_1 : Ref sig .tc := ⟨.hbm, 130, rfl⟩
abbrev main_call5_c_2 : Ref sig .tc := ⟨.hbm, 131, rfl⟩
abbrev main_call5_v6 : Ref sig .tc := ⟨.hbm, 132, rfl⟩
abbrev main_call5_v7 : Ref sig .tc := ⟨.hbm, 133, rfl⟩
abbrev main_call5_v8 : Ref sig .tc := ⟨.hbm, 134, rfl⟩
abbrev main_call5_v9 : Ref sig .tc := ⟨.hbm, 135, rfl⟩
abbrev main_call5_v10 : Ref sig .tc := ⟨.hbm, 136, rfl⟩
abbrev main_call5_v11 : Ref sig .tc := ⟨.hbm, 137, rfl⟩
abbrev main_call5_c_3 : Ref sig .tc := ⟨.hbm, 138, rfl⟩
abbrev main_call5_v12 : Ref sig .tc := ⟨.hbm, 139, rfl⟩
abbrev main_call5_v13 : Ref sig .tc := ⟨.hbm, 140, rfl⟩
abbrev main_call5_v14 : Ref sig .tc := ⟨.hbm, 141, rfl⟩
abbrev main_call5_cst : Ref sig .tc := ⟨.hbm, 142, rfl⟩
abbrev main_call5_v15 : Ref sig .tc := ⟨.hbm, 143, rfl⟩
abbrev main_v24 : Ref sig .tc := ⟨.hbm, 144, rfl⟩
abbrev main_v25 : Ref sig .tc := ⟨.hbm, 145, rfl⟩
abbrev main_v26 : Ref sig .tc := ⟨.hbm, 146, rfl⟩
abbrev main_v27 : Ref sig .tc := ⟨.hbm, 147, rfl⟩
abbrev main_v28 : Ref sig .tc := ⟨.hbm, 148, rfl⟩
abbrev main_v29 : Ref sig .tc := ⟨.hbm, 149, rfl⟩
abbrev main_cst : Ref sig .tc := ⟨.hbm, 150, rfl⟩
abbrev main_v30 : Ref sig .tc := ⟨.hbm, 151, rfl⟩
abbrev main_v31 : Ref sig .tc := ⟨.hbm, 152, rfl⟩
abbrev main_v32 : Ref sig .tc := ⟨.hbm, 153, rfl⟩
abbrev main_v33 : Ref sig .tc := ⟨.hbm, 154, rfl⟩
abbrev main_v34 : Ref sig .tc := ⟨.hbm, 155, rfl⟩
abbrev main_v35 : Ref sig .tc := ⟨.hbm, 156, rfl⟩
abbrev main_cst_4 : Ref sig .tc := ⟨.hbm, 157, rfl⟩
abbrev main_v36 : Ref sig .tc := ⟨.hbm, 158, rfl⟩
abbrev main_v37 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩

abbrev nD : Nat := 1
abbrev τ : Topo := Topo.v7x

variable {F : FTy → Type} [FloatOps F]
-- ==== Proof.Pre.lean ====
/-
  The precondition read: every coordinate and every coefficient is a real number.
-/
module

public import proofs.«01_k».proof.Defs
public import Idealize.ShloMosaic.Lib.ReduceAll
public import Idealize.ShloMosaic.Lib.Affine

@[expose] public section

noncomputable section

namespace Cert.Strip

open Idealize.ShloMosaic Idealize.SL.Sem

/-- The shape facts of the precondition. -/
instance preFacts : Cert.Pre_finite.Facts where
  bcast_S_S2000000x2 := by decide
  reducesTo_S2000000x2_S_d0_1 := by decide
  h_S_ := by decide
  bcast_S_S5000x3x5x2 := by decide
  reducesTo_S5000x3x5x2_S_d0_1_2_3 := by decide

/-- An extended real whose absolute value is below infinity is real. -/
theorem real_of_abs_lt (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x using EReal.rec with
  | coe r => exact ⟨r, rfl⟩
  | bot => simp [Ideal.cmp] at h
  | top => simp [Ideal.cmp] at h

/-- The precondition at an index of each array. -/
theorem real_of_pre (xy : FVec Ideal Cert.Pre_finite.S2000000x2 .f32) (co : FVec Ideal Cert.Pre_finite.S5000x3x5x2 .f32)
    (bi : FVec Ideal Cert.Pre_finite.S5000x3 .f32) (h : Cert.Pre_finite.fn (F := Ideal) xy co bi = fun _ => 1#1) :
    (∀ i, ∃ r : ℝ, (xy i : EReal) = r) ∧ ∀ i, ∃ r : ℝ, (co i : EReal) = r := by
  have e := congrFun h (fun a => a.elim0)
  dsimp only [Cert.Pre_finite.fn] at e
  obtain ⟨e1, e2⟩ := IntOp.andi_eq_one.1 e
  haveI : Subsingleton Cert.Pre_finite.S_.Idx := ⟨fun a b => funext fun k => k.elim0⟩
  exact ⟨fun i => real_of_abs_lt _ (Host.reduce_andi_all _ _ _ _ _ e1 i),
    fun i => real_of_abs_lt _ (Host.reduce_andi_all _ _ _ _ _ e2 i)⟩

end Cert.Strip

end
-- ==== Proof.Words.lean ====
/-
  Division and remainder of 32-bit words as the two programs spell them: a truncating division corrected by one where
  the signs differ and the remainder is not zero. On small naturals no correction is made.
-/
module

public import Idealize.ShloMosaic.Lib.Pointwise
public import Idealize.ShloMosaic.Lib.WordCmp
public import Idealize.ShloMosaic.Lib.Routing.Words

@[expose] public section

namespace Cert.Strip

open Idealize.ShloMosaic

/-- A choice whose condition is the conjunction of two bits, one of them 0, takes its second value. -/
theorem select_and_zero {α : Type} (p q : BitVec 1) (x y : α) (h : p = 0#1 ∨ q = 0#1) :
    Scalar.select (IntOp.andi p q) x y = y := by
  have e : IntOp.andi p q = 0#1 := by
    rcases h with h | h <;> subst h
    · revert q; decide
    · revert p; decide
  rw [e]; rfl

/-- A word is not different from itself. -/
theorem cmpi_ne_self {w : ℕ} (a : BitVec w) : IntOp.cmpi .ne a a = 0#1 := by
  show BitVec.ofBool (a != a) = _; simp

/-- A natural below 2^31 is not negative as a word. -/
theorem cmpi_slt_zero {n : ℕ} (h : n < 2 ^ 31) : IntOp.cmpi .slt (BitVec.ofNat 32 n) 0#32 = 0#1 := by
  have e : ¬ ((n : Int) < (0#32).toInt) := by show ¬ ((n : Int) < 0); omega
  rw [WordCmp.cmpi_slt_eq, WordCmp.toInt_ofNat_of_lt (w := 32) (by simpa using h), decide_eq_false e]; rfl

/-- A positive natural below 2^31 is positive as a word. -/
theorem cmpi_sgt_zero {n : ℕ} (h0 : 0 < n) (h : n < 2 ^ 31) : IntOp.cmpi .sgt (BitVec.ofNat 32 n) 0#32 = 1#1 := by
  have e : (0#32).toInt < (n : Int) := by show (0 : Int) < n; omega
  rw [WordCmp.cmpi_sgt_eq, WordCmp.toInt_ofNat_of_lt (w := 32) (a := n) (by simpa using h), decide_eq_true e]; rfl

/-- The sign word of a positive natural below 2^31 is 1. -/
theorem sign_pos {n : ℕ} (h0 : 0 < n) (h : n < 2 ^ 31) {s : Shape} (x : IVec s 32) (i : s.Idx)
    (hx : x i = BitVec.ofNat 32 n) : signi x i = 1#32 := by
  have e0 : ¬ BitVec.ofNat 32 n = 0 := fun e => by
    have := congrArg BitVec.toNat e
    simp at this; omega
  have e1 : (BitVec.ofNat 32 n).msb = false := by
    rw [BitVec.msb_eq_false_iff_two_mul_lt, BitVec.toNat_ofNat]; omega
  show (if x i = 0 then 0 else if (x i).msb then -1 else 1) = _
  rw [hx, if_neg e0, e1]; rfl

/-- The floor division of the host program, on naturals below 2^31. -/
theorem floorDiv_host {s : Shape} (x d one zero : IVec s 32) (sd : IVec s 32) (i : s.Idx) {n k : ℕ}
    (hx : x i = BitVec.ofNat 32 n) (hd : d i = BitVec.ofNat 32 k) (hs : sd i = 1#32) (hz : zero i = 0#32)
    (hn : n < 2 ^ 31) (hk0 : 0 < k) (hk : k < 2 ^ 31) :
    select (andi (cmpi .ne (signi x) sd) (cmpi .ne (Host.remsi x d) zero)) (subi (Host.divsi x d) one) (Host.divsi x d) i
      = BitVec.ofNat 32 (n / k) := by
  have hv : Host.divsi x d i = BitVec.ofNat 32 (n / k) := by
    show IntOp.divsi .host (x i) (d i) = _
    rw [hx, hd, Routing.divsi_word _ hn hk0 hk]
  show Scalar.select (IntOp.andi (IntOp.cmpi .ne (signi x i) (sd i)) (IntOp.cmpi .ne (Host.remsi x d i) (zero i))) _ (Host.divsi x d i) = _
  rw [select_and_zero, hv]
  rcases Nat.eq_zero_or_pos n with h0 | h0
  · right
    have : Host.remsi x d i = 0#32 := by
      show IntOp.remsi .host (x i) (d i) = _
      rw [hx, hd, Routing.remsi_word _ hn hk0 hk, h0, Nat.zero_mod]
    rw [this, hz]; exact cmpi_ne_self _
  · left
    rw [sign_pos h0 hn x i hx, hs]; exact cmpi_ne_self _

/-- The remainder of the host program, on naturals below 2^31. -/
theorem rem_host {s : Shape} (x d one zero : IVec s 32) (b : IVec s 1) (i : s.Idx) {n k : ℕ}
    (hx : x i = BitVec.ofNat 32 n) (hd : d i = BitVec.ofNat 32 k) (hb : b i = 0#1) (hz : zero i = 0#32)
    (hn : n < 2 ^ 31) (hk0 : 0 < k) (hk : k < 2 ^ 31) :
    select (andi (cmpi .ne (cmpi .slt (Host.remsi x d) zero) b) (cmpi .ne (Host.remsi x d) zero)) one (Host.remsi x d) i
      = BitVec.ofNat 32 (n % k) := by
  have hv : Host.remsi x d i = BitVec.ofNat 32 (n % k) := by
    show IntOp.remsi .host (x i) (d i) = _
    rw [hx, hd, Routing.remsi_word _ hn hk0 hk]
  show Scalar.select (IntOp.andi (IntOp.cmpi .ne (IntOp.cmpi .slt (Host.remsi x d i) (zero i)) (b i)) _) _ (Host.remsi x d i) = _
  rw [select_and_zero, hv]
  left
  have hr : n % k < k := Nat.mod_lt _ hk0
  rw [hv, hz, hb, cmpi_slt_zero (by omega)]; exact cmpi_ne_self _

/-- The floor division of the kernel body by 2000, on naturals below 2^31. -/
theorem floorDiv_body {n : ℕ} (hn : n < 2 ^ 31) :
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32)))
          (Scalar.subi (Scalar.extui (Scalar.cmpi .sgt 2000#32 0#32)) (Scalar.extui (Scalar.cmpi .slt 2000#32 0#32))))
        (IntOp.cmpi .ne (IntOp.remsi .vector (BitVec.ofNat 32 n) 2000#32) 0#32))
      (IntOp.subi (IntOp.divsi .vector (BitVec.ofNat 32 n) 2000#32) 1#32)
      (IntOp.divsi .vector (BitVec.ofNat 32 n) 2000#32) = BitVec.ofNat 32 (n / 2000) := by
  rw [select_and_zero, Routing.divsi_word _ hn (by decide) (by decide)]
  rcases Nat.eq_zero_or_pos n with h0 | h0
  · right
    rw [Routing.remsi_word _ hn (by decide) (by decide), h0]; exact cmpi_ne_self _
  · left
    rw [cmpi_sgt_zero h0 hn, cmpi_slt_zero hn]; decide

end Cert.Strip
-- ==== Proof.Body.lean ====
/-
  What one grid point of the strip kernel computes: the block it stores, read at an index.
-/
module

public import proofs.«01_k».proof.Proof.Gen.KernelIdeal.Value
public import proofs.«01_k».proof.Proof.Words
public import Idealize.ShloMosaic.Lib.Pipeline.ValueKit
public import Idealize.ShloMosaic.Lib.Pointwise

@[expose] public section

set_option maxRecDepth 16384

noncomputable section

namespace Cert.Strip

open Cert.KernelIdeal Cert.KernelIdeal.Gen Idealize.ShloMosaic Idealize.ShloMosaic.TcCoe Idealize.SL.Sem

/-- The kernel's polynomial of one channel: two Horner chains in `x` and `y` and the bias, from eleven weights. -/
def horner (w : Fin 11 → EReal) (x y : EReal) : EReal :=
  ((((w 4 * x + w 3) * x + w 2) * x + w 1) * x + w 0) + ((((w 9 * y + w 8) * y + w 7) * y + w 6) * y + w 5) + w 10

/-- Channel 0's payload at an index: the polynomial of weight rows 0 to 10, each taken from the upper or the lower
    patch row by the row mask. -/
theorem chan0 (v1 v3 : FVec Ideal S5x16000 .f32) (v5 : FVec Ideal S100x16000 .bf16) (v7 v9 : FVec Ideal S33x100 .f32)
    (v13 v15 : IVec S5x16000 32) (v29 v33 : IVec S5x16000 1) (u0 u1 : Fin 1) (s : Fin 5) (l : Fin 16000) :
    k0_pay17 v3 (k0_pay11 v13 v15 v29 v33) (k0_pay12 v5 v7) (k0_pay13 v5 v9) (k0_pay14 v1 v5 v7 v9 v13 v15 v29 v33)
      (k0_pay15 v5 v7) (k0_pay16 v5 v9) (ix4 u0 u1 s l)
    = horner (fun j => Scalar.select (k0_pay11 v13 v15 v29 v33 (ix2 s l)) (k0_pay12 v5 v7 (ix2 ⟨0 + j.val, by omega⟩ l))
        (k0_pay13 v5 v9 (ix2 ⟨0 + j.val, by omega⟩ l))) (v1 (ix2 s l)) (v3 (ix2 s l)) := by
  unfold k0_pay14 k0_pay15 k0_pay16
  generalize k0_pay11 v13 v15 v29 v33 = M
  generalize k0_pay12 v5 v7 = A
  generalize k0_pay13 v5 v9 = B
  pointwise [k0_pay17]
  rfl

/-- Channel 1's payload at an index: the polynomial of weight rows 11 to 21. -/
theorem chan1 (v1 v3 : FVec Ideal S5x16000 .f32) (M : IVec S5x16000 1) (A B : FVec Ideal S33x16000 .f32)
    (u0 u1 : Fin 1) (s : Fin 5) (l : Fin 16000) :
    k0_pay24 v3 M A B (k0_pay20 v1 M A B (k0_pay18 A) (k0_pay19 B)) (k0_pay21 v3 M A B) (k0_pay22 A) (k0_pay23 B) (ix4 u0 u1 s l)
    = horner (fun j => Scalar.select (M (ix2 s l)) (A (ix2 ⟨11 + j.val, by omega⟩ l)) (B (ix2 ⟨11 + j.val, by omega⟩ l)))
        (v1 (ix2 s l)) (v3 (ix2 s l)) := by
  pointwise [k0_pay24, k0_pay20, k0_pay18, k0_pay19, k0_pay21, k0_pay22, k0_pay23]
  rfl

/-- Channel 2's payload at an index: the polynomial of weight rows 22 to 32. -/
theorem chan2 (v1 v3 : FVec Ideal S5x16000 .f32) (M : IVec S5x16000 1) (A B : FVec Ideal S33x16000 .f32)
    (u0 u1 : Fin 1) (s : Fin 5) (l : Fin 16000) :
    k0_pay1 M A B (k0_pay28 v1 M A B (k0_pay25 v1 M A B) (k0_pay26 A) (k0_pay27 B)) (k0_pay29 v3 M A B) (k0_pay30 A) (ix4 u0 u1 s l)
    = horner (fun j => Scalar.select (M (ix2 s l)) (A (ix2 ⟨22 + j.val, by omega⟩ l)) (B (ix2 ⟨22 + j.val, by omega⟩ l)))
        (v1 (ix2 s l)) (v3 (ix2 s l)) := by
  pointwise [k0_pay1, k0_pay28, k0_pay25, k0_pay26, k0_pay27, k0_pay29, k0_pay30]
  rfl

/-- The row mask: row `8 s + l / 2000` of the strip lies in its upper patch row. -/
theorem mask (s : Fin 5) (l : Fin 16000) :
    k0_pay11 k0_pay7 k0_pay8 k0_pay9 k0_pay10 (ix2 s l) = BitVec.ofBool (decide (8 * s.val + l.val / 2000 < 20)) := by
  pointwise [k0_pay11, k0_pay7, k0_pay8, k0_pay9, k0_pay10]
  have hs := s.isLt
  have hl := l.isLt
  rw [floorDiv_body (by omega)]
  have e : IntOp.addi (IntOp.muli 8#32 (BitVec.ofNat 32 s.val)) (BitVec.ofNat 32 (l.val / 2000))
      = BitVec.ofNat 32 (8 * s.val + l.val / 2000) := by
    rw [BitVec.ofNat_add, BitVec.ofNat_mul]; rfl
  rw [e]
  simp (disch := omega) only [hlo_ix]

/-- The expanded weights of the upper patch row: the product with the 0/1 matrix. -/
theorem prodA (v5 : FVec Ideal S100x16000 .bf16) (v7 : FVec Ideal S33x100 .f32) (r : Fin 33) (l : Fin 16000) :
    k0_pay12 v5 v7 (ix2 r l) = ∑ k : Fin 100, v7 (ix2 r k) * v5 (ix2 k l) := by
  pointwise [k0_pay12]

/-- The expanded weights of the lower patch row. -/
theorem prodB (v5 : FVec Ideal S100x16000 .bf16) (v9 : FVec Ideal S33x100 .f32) (r : Fin 33) (l : Fin 16000) :
    k0_pay13 v5 v9 (ix2 r l) = ∑ k : Fin 100, v9 (ix2 r k) * v5 (ix2 k l) := by
  pointwise [k0_pay13]

/-- What the body leaves at channel `c`, sublane `s`, lane `l` of its block, from its three blocks. -/
def blockVal (x0 : Vec Ideal S2x1x5x16000 .f32) (x1 : Vec Ideal S1x2x33x100 .f32) (x2 : Vec Ideal S100x16000 .bf16)
    (c : Fin 3) (s : Fin 5) (l : Fin 16000) : EReal :=
  horner (fun j => if 8 * s.val + l.val / 2000 < 20
      then ∑ k : Fin 100, x1 (ix4 0 0 ⟨11 * c.val + j.val, by omega⟩ k) * x2 (ix2 k l)
      else ∑ k : Fin 100, x1 (ix4 0 1 ⟨11 * c.val + j.val, by omega⟩ k) * x2 (ix2 k l))
    (x0 (ix4 0 0 s l)) (x0 (ix4 1 0 s l))

/-- The polynomial of weight rows `o = 11 c` on is the block's value at channel `c`. -/
theorem horner_blocks (x0 : Vec Ideal S2x1x5x16000 .f32) (x1 : Vec Ideal S1x2x33x100 .f32) (x2 : Vec Ideal S100x16000 .bf16)
    (c : Fin 3) (o : ℕ) (ho : ∀ j : Fin 11, o + j.val < 33) (hc : o = 11 * c.val) (s : Fin 5) (l : Fin 16000) :
    horner (fun j => Scalar.select (k0_pay40 x0 x1 x2 (ix2 s l)) (k0_pay41 x0 x1 x2 (ix2 ⟨o + j.val, ho j⟩ l))
        (k0_pay42 x0 x1 x2 (ix2 ⟨o + j.val, ho j⟩ l))) (k0_pay31 x0 x1 x2 (ix2 s l)) (k0_pay32 x0 x1 x2 (ix2 s l))
      = blockVal x0 x1 x2 c s l := by
  subst hc
  unfold blockVal
  have e31 : k0_pay31 x0 x1 x2 (ix2 s l) = x0 (ix4 0 0 s l) := by pointwise [k0_pay31, k0_pay2]
  have e32 : k0_pay32 x0 x1 x2 (ix2 s l) = x0 (ix4 1 0 s l) := by pointwise [k0_pay32, k0_pay3]
  have eM : k0_pay40 x0 x1 x2 (ix2 s l) = BitVec.ofBool (decide (8 * s.val + l.val / 2000 < 20)) := mask s l
  have e33 : ∀ k : Fin 100, k0_pay33 x0 x1 x2 (ix2 k l) = x2 (ix2 k l) := fun k => by pointwise [k0_pay33, k0_pay4]
  have e34 : ∀ (r : Fin 33) (k : Fin 100), k0_pay34 x0 x1 x2 (ix2 r k) = x1 (ix4 0 0 r k) := fun r k => by pointwise [k0_pay34, k0_pay5]
  have e35 : ∀ (r : Fin 33) (k : Fin 100), k0_pay35 x0 x1 x2 (ix2 r k) = x1 (ix4 0 1 r k) := fun r k => by pointwise [k0_pay35, k0_pay6]
  rw [e31, e32, eM]
  congr 1
  funext j
  unfold k0_pay41 k0_pay42
  rw [prodA, prodB]
  simp only [e33, e34, e35]
  by_cases h : 8 * s.val + l.val / 2000 < 20
  · rw [decide_eq_true h, if_pos h]; rfl
  · rw [decide_eq_false h, if_neg h]; rfl

/-- The stored block at an index. -/
theorem out_apply (x0 : Vec Ideal S2x1x5x16000 .f32) (x1 : Vec Ideal S1x2x33x100 .f32) (x2 : Vec Ideal S100x16000 .bf16)
    (c : Fin 3) (u : Fin 1) (s : Fin 5) (l : Fin 16000) : out0_3 x0 x1 x2 (ix4 c u s l) = blockVal x0 x1 x2 c s l := by
  have at4 : ∀ x : S1x1x5x16000.Idx, s.val = (x 2).val → l.val = (x 3).val → x = ix4 (x 0) (x 1) s l := by
    intro x h2 h3
    funext a
    fin_cases a
    · rfl
    · rfl
    · exact Fin.ext h2.symm
    · exact Fin.ext h3.symm
  unfold out0_3
  canon_tiles x h
  · rw [at4 x h2 h3]
    refine (chan2 _ _ _ _ _ _ _ _ _).trans ?_
    exact horner_blocks x0 x1 x2 c 22 (fun j => by omega) (by have : c.val = 2 + (x 0).val := h0; omega) s l
  · rw [at4 x h2 h3]
    refine (chan1 _ _ _ _ _ _ _ _ _).trans ?_
    exact horner_blocks x0 x1 x2 c 11 (fun j => by omega) (by have : c.val = 1 + (x 0).val := h0; omega) s l
  · rw [at4 x h2 h3]
    refine (chan0 _ _ _ _ _ _ _ _ _ _ _ _ _).trans ?_
    exact horner_blocks x0 x1 x2 c 0 (fun j => by omega) (by have : c.val = (x 0).val := h0; omega) s l

end Cert.Strip

end
-- ==== Proof.Host.lean ====
/-
  What the host hands the strip kernel: the three arrays its windows read, at an index.
-/
module

public import proofs.«01_k».proof.Proof.Gen.KernelIdeal.Value
public import proofs.«01_k».proof.Proof.Words
public import Idealize.ShloMosaic.Lib.Pipeline.ValueKit
public import Idealize.ShloMosaic.Lib.Pointwise
public import Idealize.ShloMosaic.Lib.Claim

@[expose] public section

set_option maxRecDepth 16384

noncomputable section

namespace Cert.Strip

open Cert.KernelIdeal Cert.KernelIdeal.Gen Idealize.ShloMosaic Idealize.ShloMosaic.TcCoe Idealize.SL.Sem

variable (m : (ℓ : Loc nD τ sig) → Buf (Elt Ideal) ℓ)

/-- The coordinates as the kernel reads them: transposed and cut into strips. -/
theorem V_xy (c : Dev nD) : V m c main_v1
    = shapeCast S2x25x5x16000 (transpose S2x2000000 [1, 0] (m ((c : Thread nD τ).loc main_arg0)) transposes_S2000000x2_S2x2000000_1_0)
        shapeCasts_S2x2000000_S2x25x5x16000 := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

/-- The weights of every patch side by side: five for x, five for y, the bias. -/
def joined (c : Dev nD) : FVec Ideal S5000x3x11 .f32 :=
  concatenate S5000x3x11 2
    [⟨S5000x3x5, shapeCast S5000x3x5 (extractStridedSlice S5000x3x5x1 ![0, 0, 0, 0] (m ((c : Thread nD τ).loc main_arg1))
        slices_S5000x3x5x2_S5000x3x5x1_0_0_0_0) shapeCasts_S5000x3x5x1_S5000x3x5⟩,
      ⟨S5000x3x5, shapeCast S5000x3x5 (extractStridedSlice S5000x3x5x1 ![0, 0, 0, 1] (m ((c : Thread nD τ).loc main_arg1))
        slices_S5000x3x5x2_S5000x3x5x1_0_0_0_1) shapeCasts_S5000x3x5x1_S5000x3x5⟩,
      ⟨S5000x3x1, broadcastInDim S5000x3x1 ![0, 1] bcast_S5000x3_S5000x3x1_0_1 (m ((c : Thread nD τ).loc main_arg2))⟩]
    concatenates_S5000x3x5_S5000x3x5_S5000x3x1_S5000x3x11_d2

/-- The weights as the kernel reads them: grouped by patch row, patches in the lanes. -/
theorem V_w (c : Dev nD) : V m c main_v10
    = shapeCast S25x2x33x100 (transpose S50x33x100 [0, 2, 1] (shapeCast S50x100x33 (joined m c) shapeCasts_S5000x3x11_S50x100x33)
        transposes_S50x100x33_S50x33x100_0_2_1) shapeCasts_S50x33x100_S25x2x33x100 := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

/-- A lane's column word: the lane modulo 2000. -/
def colWord : IVec S1x16000 32 :=
  have x : IVec S1x16000 32 := broadcastInDim S1x16000 ![1] bcast_S16000_S1x16000_1 (iotaInDim S16000 32 0)
  have k : IVec S_ 32 := select (cmpi .eq (constantI S_ 32 2000#32) (constantI S_ 32 0#32)) (constantI S_ 32 1#32) (constantI S_ 32 2000#32)
  have d : IVec S1x16000 32 := broadcastInDim S1x16000 ![] bcast_S_S1x16000 k
  have zero : IVec S1x16000 32 := broadcastInDim S1x16000 ![] bcast_S_S1x16000 (constantI S_ 32 0#32)
  have b : IVec S1x16000 1 := broadcastInDim S1x16000 ![] bcast_S_S1x16000 (cmpi .slt k (constantI S_ 32 0#32))
  select (andi (cmpi .ne (cmpi .slt (Host.remsi x d) zero) b) (cmpi .ne (Host.remsi x d) zero)) (addi (Host.remsi x d) d) (Host.remsi x d)

/-- A lane's patch word: its column divided by 20. -/
def patchWord : IVec S1x16000 32 :=
  have x : IVec S1x16000 32 := colWord
  have d : IVec S1x16000 32 := broadcastInDim S1x16000 ![] bcast_S_S1x16000 (constantI S_ 32 20#32)
  have sd : IVec S1x16000 32 := broadcastInDim S1x16000 ![] bcast_S_S1x16000 (signi (constantI S_ 32 20#32))
  have zero : IVec S1x16000 32 := broadcastInDim S1x16000 ![] bcast_S_S1x16000 (constantI S_ 32 0#32)
  have one : IVec S1x16000 32 := broadcastInDim S1x16000 ![] bcast_S_S1x16000 (constantI S_ 32 1#32)
  select (andi (cmpi .ne (signi x) sd) (cmpi .ne (Host.remsi x d) zero)) (subi (Host.divsi x d) one) (Host.divsi x d)

/-- The 0/1 matrix: 1 where a lane's patch is the row's. -/
theorem V_e (c : Dev nD) : V m c main_v20
    = uitofp (F := Ideal) .bf16 (cmpi .eq (broadcastInDim S100x16000 ![0, 1] bcast_S1x16000_S100x16000_0_1 patchWord)
        (broadcastInDim S100x16000 ![0, 1] bcast_S100x1_S100x16000_0_1
          (broadcastInDim S100x1 ![0] bcast_S100_S100x1_0 (iotaInDim S100 32 0)))) := by
  unfold V
  simp only [hostOps0, hostOps0_1, hostOps0_2, hostOps0_3, hostOps0_4, List.flatten_cons, List.flatten_nil, List.append_nil,
    List.cons_append, List.nil_append, StableHlo.TRef.binary, StableHlo.TRef.nullary, StableHlo.TRef.ternary,
    StableHlo.TRef.unary, StableHlo.TRef.toBuf, StableHlo.TRef.ofBuf, cast_eq]
  after_results_simp
  rfl

theorem colWord_apply (u : Fin 1) (l : Fin 16000) : colWord (ix2 u l) = BitVec.ofNat 32 (l.val % 2000) :=
  rem_host _ _ _ _ _ _ rfl rfl rfl rfl (by omega) (by decide) (by decide)

theorem patchWord_apply (u : Fin 1) (l : Fin 16000) : patchWord (ix2 u l) = BitVec.ofNat 32 (l.val % 2000 / 20) :=
  floorDiv_host _ _ _ _ _ _ (colWord_apply u l) rfl
    (sign_pos (n := 20) (by decide) (by decide) (constantI S_ 32 20#32) _ rfl) rfl (by omega) (by decide) (by decide)

/-- The coordinates at an index. -/
theorem xy_apply (c : Dev nD) (d : Fin 2) (t : Fin 25) (s : Fin 5) (l : Fin 16000) :
    V m c main_v1 (ix4 d t s l) = m ((c : Thread nD τ).loc main_arg0) (ix2 ⟨t.val * 80000 + s.val * 16000 + l.val, by omega⟩ d) := by
  rw [V_xy]
  pointwise

/-- Among the joined weights the first five are x's. -/
theorem joined_x (c : Dev nD) (p : Fin 5000) (ch : Fin 3) (j : Fin 5) :
    joined m c (ix3 p ch ⟨j.val, by omega⟩) = m ((c : Thread nD τ).loc main_arg1) (ix4 p ch j 0) := by
  unfold joined
  pointwise

/-- The next five are y's. -/
theorem joined_y (c : Dev nD) (p : Fin 5000) (ch : Fin 3) (j : Fin 5) :
    joined m c (ix3 p ch ⟨5 + j.val, by omega⟩) = m ((c : Thread nD τ).loc main_arg1) (ix4 p ch j 1) := by
  unfold joined
  pointwise

/-- The last is the bias. -/
theorem joined_bias (c : Dev nD) (p : Fin 5000) (ch : Fin 3) :
    joined m c (ix3 p ch 10) = m ((c : Thread nD τ).loc main_arg2) (ix2 p ch) := by
  unfold joined
  pointwise

/-- The weights at an index. -/
theorem w_apply (c : Dev nD) (t : Fin 25) (h : Fin 2) (ch : Fin 3) (j : Fin 11) (q : Fin 100) :
    V m c main_v10 (ix4 t h ⟨11 * ch.val + j.val, by omega⟩ q) = joined m c (ix3 ⟨(t.val * 2 + h.val) * 100 + q.val, by omega⟩ ch j) := by
  rw [V_w]
  pointwise

/-- The 0/1 matrix at an index. -/
theorem e_apply (c : Dev nD) (k : Fin 100) (l : Fin 16000) :
    V m c main_v20 (ix2 k l) = if l.val % 2000 / 20 = k.val then (1 : EReal) else 0 := by
  rw [V_e]
  pointwise
  rw [patchWord_apply]
  have hk := k.isLt
  by_cases h : l.val % 2000 / 20 = k.val
  · rw [if_pos h, h]
    have : IntOp.cmpi .eq (BitVec.ofNat 32 k.val) (BitVec.ofNat 32 k.val) = 1#1 := by
      show BitVec.ofBool (_ == _) = _; simp
    rw [this]
    show (((1#1).toNat : ℝ) : EReal) = 1
    simp
  · have e : ¬ BitVec.ofNat 32 (l.val % 2000 / 20) = BitVec.ofNat 32 k.val := fun e =>
      h ((WordCmp.ofNat_eq_ofNat_iff (by omega) (by omega)).mp e)
    rw [if_neg h, WordCmp.cmpi_eq_eq, decide_eq_false e]
    show (((BitVec.ofBool false).toNat : ℝ) : EReal) = 0
    simp

end Cert.Strip

end
-- ==== Proof.Blocks.lean ====
/-
  The strip kernel's result array: every strip written once, each entry the polynomial of its pixel.
-/
module

public import proofs.«01_k».proof.Proof.Body
public import proofs.«01_k».proof.Proof.Host

@[expose] public section

set_option maxRecDepth 16384

noncomputable section

namespace Cert.Strip

open Cert.KernelIdeal Cert.KernelIdeal.Gen Idealize.ShloMosaic Idealize.ShloMosaic.TcCoe Idealize.SL.Sem

variable (m : (ℓ : Loc nD τ sig) → Buf (Elt Ideal) ℓ)

/-- The pixel at strip `t`, sublane `s`, lane `l`. -/
def pixel (t : Fin 25) (s : Fin 5) (l : Fin 16000) : Fin 2000000 := ⟨t.val * 80000 + s.val * 16000 + l.val, by omega⟩

/-- The patch of a pixel: patches are 20 by 20 pixels, an image row has 2000 pixels and 100 patches. -/
def patch (p : Fin 2000000) : Fin 5000 := ⟨p.val / 2000 / 20 * 100 + p.val % 2000 / 20, by omega⟩

/-- The kernel's value of channel `ch` at pixel `p`. -/
def kernelVal (c : Dev nD) (ch : Fin 3) (p : Fin 2000000) : EReal :=
  horner (fun j => joined m c (ix3 (patch p) ch j)) (m ((c : Thread nD τ).loc main_arg0) (ix2 p 0))
    (m ((c : Thread nD τ).loc main_arg0) (ix2 p 1))

/-- A sum against a 0/1 row keeps the one term where the row is 1. -/
theorem sum_oneHot (f : Fin 100 → EReal) (q : Fin 100) :
    ∑ k : Fin 100, f k * (if q.val = k.val then (1 : EReal) else 0) = f q := by
  rw [Finset.sum_eq_single q]
  · rw [if_pos rfl, mul_one]
  · intro k _ hk
    rw [if_neg fun e => hk (Fin.ext e.symm), mul_zero]
  · intro h; exact absurd (Finset.mem_univ q) h

theorem index0 : ∀ t, win0_0.index t = ![0, t.val, 0, 0] := by decide +kernel
theorem index1 : ∀ t, win0_1.index t = ![t.val, 0, 0, 0] := by decide +kernel
theorem index2 : ∀ t, win0_2.index t = ![0, 0] := by decide +kernel
theorem index3 : ∀ t, win0_3.index t = ![0, t.val, 0, 0] := by decide +kernel

theorem iblk0 (c : Dev nD) (t : Fin cfg0.N) (d : Fin 2) (s : Fin 5) (l : Fin 16000) :
    iblk m c 0 t (ix4 d 0 s l) = V m c main_v1 (ix4 d ⟨t.val, t.isLt⟩ s l) := by
  blk_ext [iblk, V, index0 t]

theorem iblk1 (c : Dev nD) (t : Fin cfg0.N) (h : Fin 2) (r : Fin 33) (q : Fin 100) :
    iblk m c 1 t (ix4 0 h r q) = V m c main_v10 (ix4 ⟨t.val, t.isLt⟩ h r q) := by
  blk_ext [iblk, V, index1 t]

theorem iblk2 (c : Dev nD) (t : Fin cfg0.N) (k : Fin 100) (l : Fin 16000) :
    iblk m c 2 t (ix2 k l) = V m c main_v20 (ix2 k l) := by
  blk_ext [iblk, V, index2 t]

/-- The image row of a strip's pixel. -/
theorem row_eq (t s l : ℕ) : (t * 80000 + s * 16000 + l) / 2000 = 40 * t + 8 * s + l / 2000 := by omega

/-- The image column of a strip's pixel. -/
theorem col_eq (t s l : ℕ) : (t * 80000 + s * 16000 + l) % 2000 = l % 2000 := by omega

/-- The patch row of a strip's pixel: the strip's upper one while its row in the strip is below 20, else its lower. -/
theorem patchRow_eq (t s l : ℕ) (hs : s < 5) (hl : l < 16000) :
    (40 * t + 8 * s + l / 2000) / 20 = if 8 * s + l / 2000 < 20 then t * 2 + 0 else t * 2 + 1 := by
  have : l / 2000 < 8 := by omega
  generalize l / 2000 = r at *
  split <;> omega

/-- A block's value from blocks that hold strip `t`'s coordinates, its two rows of weights and the 0/1 matrix. -/
theorem blockVal_eq (c : Dev nD) (t : Fin 25) (x0 : Vec Ideal S2x1x5x16000 .f32) (x1 : Vec Ideal S1x2x33x100 .f32)
    (x2 : Vec Ideal S100x16000 .bf16)
    (h0 : ∀ (d : Fin 2) (s : Fin 5) (l : Fin 16000), x0 (ix4 d 0 s l) = m ((c : Thread nD τ).loc main_arg0) (ix2 (pixel t s l) d))
    (h1 : ∀ (h : Fin 2) (ch : Fin 3) (j : Fin 11) (q : Fin 100), x1 (ix4 0 h ⟨11 * ch.val + j.val, by omega⟩ q)
      = joined m c (ix3 ⟨(t.val * 2 + h.val) * 100 + q.val, by omega⟩ ch j))
    (h2 : ∀ (k : Fin 100) (l : Fin 16000), x2 (ix2 k l) = if l.val % 2000 / 20 = k.val then (1 : EReal) else 0)
    (ch : Fin 3) (s : Fin 5) (l : Fin 16000) : blockVal x0 x1 x2 ch s l = kernelVal m c ch (pixel t s l) := by
  have q : l.val % 2000 / 20 < 100 := by omega
  have key : ∀ (h : Fin 2) (j : Fin 11), t.val * 2 + h.val = (40 * t.val + 8 * s.val + l.val / 2000) / 20 →
      ∑ k : Fin 100, x1 (ix4 0 h ⟨11 * ch.val + j.val, by omega⟩ k) * x2 (ix2 k l)
        = joined m c (ix3 (patch (pixel t s l)) ch j) := by
    intro h j hh
    have e : ∀ k : Fin 100, x1 (ix4 0 h ⟨11 * ch.val + j.val, by omega⟩ k) * x2 (ix2 k l)
        = joined m c (ix3 ⟨(t.val * 2 + h.val) * 100 + k.val, by omega⟩ ch j)
          * (if (⟨l.val % 2000 / 20, q⟩ : Fin 100).val = k.val then (1 : EReal) else 0) := fun k => by rw [h1, h2]
    rw [Finset.sum_congr rfl fun k _ => e k, sum_oneHot (fun k => joined m c (ix3 ⟨(t.val * 2 + h.val) * 100 + k.val, by omega⟩ ch j))]
    have ep : (⟨(t.val * 2 + h.val) * 100 + l.val % 2000 / 20, by omega⟩ : Fin 5000) = patch (pixel t s l) := by
      apply Fin.ext
      show (t.val * 2 + h.val) * 100 + l.val % 2000 / 20
        = (t.val * 80000 + s.val * 16000 + l.val) / 2000 / 20 * 100 + (t.val * 80000 + s.val * 16000 + l.val) % 2000 / 20
      rw [row_eq, col_eq, hh]
    exact congrArg (fun p => joined m c (ix3 p ch j)) ep
  have hr := patchRow_eq t.val s.val l.val s.isLt l.isLt
  unfold blockVal kernelVal
  rw [h0, h0]
  congr 1
  funext j
  split
  · rename_i hlt
    rw [if_pos hlt] at hr
    exact key 0 j hr.symm
  · rename_i hlt
    rw [if_neg hlt] at hr
    exact key 1 j hr.symm

/-- Grid point `t`'s block holds its strip's pixels. -/
theorem block_point (c : Dev nD) (t : Fin cfg0.N) (ch : Fin 3) (u : Fin 1) (s : Fin 5) (l : Fin 16000) :
    out0_3 (iblk m c 0 t) (iblk m c 1 t) (iblk m c 2 t) (ix4 ch u s l) = kernelVal m c ch (pixel ⟨t.val, t.isLt⟩ s l) :=
  (out_apply _ _ _ ch u s l).trans (blockVal_eq m c ⟨t.val, t.isLt⟩ _ _ _
    (fun d s l => (iblk0 m c t d s l).trans (xy_apply m c d _ s l))
    (fun h ch j q => (iblk1 m c t h _ q).trans (w_apply m c _ h ch j q))
    (fun k l => (iblk2 m c t k l).trans (e_apply m c k l)) ch s l)

/-- The result array after the run. -/
theorem arr_eq (c : Dev nD) :
    (dats m 0 c).arrAt 3 cfg0.N = fun i : S3x25x5x16000.Idx => kernelVal m c (i 0) (pixel (i 1) (i 2) (i 3)) := by
  refine (dats m 0 c).arrAt_eq_of_covers 3 _ (by decide +kernel) fun t hf y => ?_
  blk_simp
  rw [after0_3]
  change out0_3 (iblk m c 0 t) (iblk m c 1 t) (iblk m c 2 t) y = _
  have e : ∀ f : S3x25x5x16000.Idx → EReal, f ((win0_3.blk t).view.emb y) = f (ix4 (y 0) ⟨t.val, t.isLt⟩ (y 2) (y 3)) :=
    fun f => by blk_ext [index3 t]
  have hy : y = ix4 (y 0) (y 1) (y 2) (y 3) := by funext a; fin_cases a <;> rfl
  refine Eq.trans ?_ (e (fun i => kernelVal m c (i 0) (pixel (i 1) (i 2) (i 3)))).symm
  exact (congrArg (out0_3 (iblk m c 0 t) (iblk m c 1 t) (iblk m c 2 t)) hy).trans (block_point m c t (y 0) (y 1) (y 2) (y 3))

end Cert.Strip

end
-- ==== Proof.Lookup.lean ====
/-
  The reference's two lookups, by a word that names a patch: the row read is the word's own value,
  clamped to the last patch.
-/
module

public import proofs.«01_k».proof.Proof.Gen.ReferenceIdeal.Run
public import Idealize.ShloMosaic.Lib.Pointwise

@[expose] public section

set_option maxRecDepth 16384

noncomputable section

namespace Cert.Strip.Ref

open Cert.ReferenceIdeal Cert.ReferenceIdeal.Gen Idealize.ShloMosaic

/-- The coefficient lookup's geometry. -/
abbrev coefDims := gather_S5000x3x5x2_S2000000x1_S2000000x3x5x2_123_0_n_n_0_1_1352

/-- The bias lookup's geometry. -/
abbrev biasDims := gather_S5000x3_S2000000x1_S2000000x3_1_0_n_n_0_1_13

theorem coef_row (idx : IVec S2000000x1 32) (p : Fin 2000000) (ch : Fin 3) (j : Fin 5) (d : Fin 2) :
    coefDims.start (ix4 p ch j d) idx 0 = min (idx (ix2 p 0)).toInt.toNat 4999 := by
  unfold GatherDims.start
  rw [dif_pos (show (0 : Fin 4) ∈ coefDims.startIndexMap from List.mem_singleton.mpr rfl)]
  have hsi : coefDims.siIdx (ix4 p ch j d) ⟨List.idxOf (0 : Fin 4) coefDims.startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

theorem coef_start (idx : IVec S2000000x1 32) (i : S2000000x3x5x2.Idx) (a : Fin 4) (h : a ≠ 0) :
    coefDims.start i idx a = 0 :=
  dif_neg (fun e => h (List.mem_singleton.mp e))

theorem coef_off0 (i : S2000000x3x5x2.Idx) : coefDims.offCoord i 0 = 0 :=
  dif_neg (show (0 : Fin 4) ∉ coefDims.sKept by decide)
theorem coef_off1 (i : S2000000x3x5x2.Idx) : coefDims.offCoord i 1 = (i 1).val :=
  dif_pos (show (1 : Fin 4) ∈ coefDims.sKept by decide)
theorem coef_off2 (i : S2000000x3x5x2.Idx) : coefDims.offCoord i 2 = (i 2).val :=
  dif_pos (show (2 : Fin 4) ∈ coefDims.sKept by decide)
theorem coef_off3 (i : S2000000x3x5x2.Idx) : coefDims.offCoord i 3 = (i 3).val :=
  dif_pos (show (3 : Fin 4) ∈ coefDims.sKept by decide)

/-- The coefficient lookup at an index. -/
theorem gather_coef (x : S5000x3x5x2.Idx → EReal) (idx : IVec S2000000x1 32) (p : Fin 2000000) (ch : Fin 3) (j : Fin 5) (d : Fin 2) :
    Host.gather coefDims x idx (ix4 p ch j d) = x (ix4 ⟨min (idx (ix2 p 0)).toInt.toNat 4999, by omega⟩ ch j d) := by
  unfold Host.gather
  congr 1
  funext a
  refine Fin.ext ?_
  show coefDims.start (ix4 p ch j d) idx a + coefDims.batchCoord (ix4 p ch j d) a + coefDims.offCoord (ix4 p ch j d) a = _
  rw [GatherDims.batchCoord_eq_zero _ _ _ List.not_mem_nil, Nat.add_zero]
  match a with
  | ⟨0, _⟩ => exact (congrArg₂ (· + ·) (coef_row idx p ch j d) (coef_off0 _)).trans (Nat.add_zero _)
  | ⟨1, _⟩ => exact (congrArg₂ (· + ·) (coef_start idx _ 1 (by decide)) (coef_off1 _)).trans (Nat.zero_add _)
  | ⟨2, _⟩ => exact (congrArg₂ (· + ·) (coef_start idx _ 2 (by decide)) (coef_off2 _)).trans (Nat.zero_add _)
  | ⟨3, _⟩ => exact (congrArg₂ (· + ·) (coef_start idx _ 3 (by decide)) (coef_off3 _)).trans (Nat.zero_add _)

theorem bias_row (idx : IVec S2000000x1 32) (p : Fin 2000000) (ch : Fin 3) :
    biasDims.start (ix2 p ch) idx 0 = min (idx (ix2 p 0)).toInt.toNat 4999 := by
  unfold GatherDims.start
  rw [dif_pos (show (0 : Fin 2) ∈ biasDims.startIndexMap from List.mem_singleton.mpr rfl)]
  have hsi : biasDims.siIdx (ix2 p ch) ⟨List.idxOf (0 : Fin 2) biasDims.startIndexMap,
      List.idxOf_lt_length_iff.2 (List.mem_singleton.mpr rfl)⟩ = ix2 p 0 := by
    funext b; refine Fin.ext ?_
    match b with
    | ⟨0, _⟩ => rfl
    | ⟨1, _⟩ => rfl
  rw [hsi]
  rfl

theorem bias_start (idx : IVec S2000000x1 32) (i : S2000000x3.Idx) : biasDims.start i idx 1 = 0 :=
  dif_neg (fun e => absurd (List.mem_singleton.mp e) (by decide))
theorem bias_off0 (i : S2000000x3.Idx) : biasDims.offCoord i 0 = 0 :=
  dif_neg (show (0 : Fin 2) ∉ biasDims.sKept by decide)
theorem bias_off1 (i : S2000000x3.Idx) : biasDims.offCoord i 1 = (i 1).val :=
  dif_pos (show (1 : Fin 2) ∈ biasDims.sKept by decide)

/-- The bias lookup at an index. -/
theorem gather_bias (x : S5000x3.Idx → EReal) (idx : IVec S2000000x1 32) (p : Fin 2000000) (ch : Fin 3) :
    Host.gather biasDims x idx (ix2 p ch) = x (ix2 ⟨min (idx (ix2 p 0)).toInt.toNat 4999, by omega⟩ ch) := by
  unfold Host.gather
  congr 1
  funext a
  refine Fin.ext ?_
  show biasDims.start (ix2 p ch) idx a + biasDims.batchCoord (ix2 p ch) a + biasDims.offCoord (ix2 p ch) a = _
  rw [GatherDims.batchCoord_eq_zero _ _ _ List.not_mem_nil, Nat.add_zero]
  match a with
  | ⟨0, _⟩ => exact (congrArg₂ (· + ·) (bias_row idx p ch) (bias_off0 _)).trans (Nat.add_zero _)
  | ⟨1, _⟩ => exact (congrArg₂ (· + ·) (bias_start idx _) (bias_off1 _)).trans (Nat.zero_add _)

end Cert.Strip.Ref

end
-- ==== Proof.RefParts.lean ====
/-
  The reference's sums of powers and its result, read at an index, over any arrays.
-/
module

public import proofs.«01_k».proof.Proof.Gen.ReferenceIdeal.Run
public import Idealize.ShloMosaic.Lib.Pointwise

@[expose] public section

set_option maxRecDepth 16384

noncomputable section

namespace Cert.Strip.Ref

open Cert.ReferenceIdeal Cert.ReferenceIdeal.Gen Idealize.ShloMosaic

/-- The first coordinate's part of the reference: the lookup's slice times the powers, summed. -/
def partX (T : FVec Ideal S2000000x3x5x2 .f32) (xy : FVec Ideal S2000000x2 .f32) (ex : FVec Ideal S5 .f32) : FVec Ideal S2000000x3 .f32 :=
  Host.reduceAdd (mulf (shapeCast S2000000x3x5 (extractStridedSlice S2000000x3x5x1 ![0, 0, 0, 0] T slices_S2000000x3x5x2_S2000000x3x5x1_0_0_0_0) shapeCasts_S2000000x3x5x1_S2000000x3x5) (broadcastInDim S2000000x3x5 ![0, 1, 2] bcast_S2000000x1x5_S2000000x3x5_0_1_2 (broadcastInDim S2000000x1x5 ![0, 2] bcast_S2000000x5_S2000000x1x5_0_2 (Host.powf (broadcastInDim S2000000x5 ![0, 1] bcast_S2000000x1_S2000000x5_0_1 (broadcastInDim S2000000x1 ![0] bcast_S2000000_S2000000x1_0 (shapeCast S2000000 (extractStridedSlice S2000000x1 ![0, 0] xy slices_S2000000x2_S2000000x1_0_0) shapeCasts_S2000000x1_S2000000))) (broadcastInDim S2000000x5 ![0, 1] bcast_S1x5_S2000000x5_0_1 (broadcastInDim S1x5 ![1] bcast_S5_S1x5_1 ex)))))) (constant S_ .f32 0x00000000#32) reducesTo_S2000000x3x5_S2000000x3_d2 h_S_

theorem partX_apply (T : FVec Ideal S2000000x3x5x2 .f32) (xy : FVec Ideal S2000000x2 .f32) (ex : FVec Ideal S5 .f32)
    (p : Fin 2000000) (ch : Fin 3) :
    partX T xy ex (ix2 p ch) = ∑ j : Fin 5, (T (ix4 p ch j 0) : EReal) * Ideal.pow (xy (ix2 p 0)) (ex (ix1 j)) := by
  unfold partX
  pointwise

/-- The second coordinate's part of the reference: the lookup's slice times the powers, summed. -/
def partY (T : FVec Ideal S2000000x3x5x2 .f32) (xy : FVec Ideal S2000000x2 .f32) (ex : FVec Ideal S5 .f32) : FVec Ideal S2000000x3 .f32 :=
  Host.reduceAdd (mulf (shapeCast S2000000x3x5 (extractStridedSlice S2000000x3x5x1 ![0, 0, 0, 1] T slices_S2000000x3x5x2_S2000000x3x5x1_0_0_0_1) shapeCasts_S2000000x3x5x1_S2000000x3x5) (broadcastInDim S2000000x3x5 ![0, 1, 2] bcast_S2000000x1x5_S2000000x3x5_0_1_2 (broadcastInDim S2000000x1x5 ![0, 2] bcast_S2000000x5_S2000000x1x5_0_2 (Host.powf (broadcastInDim S2000000x5 ![0, 1] bcast_S2000000x1_S2000000x5_0_1 (broadcastInDim S2000000x1 ![0] bcast_S2000000_S2000000x1_0 (shapeCast S2000000 (extractStridedSlice S2000000x1 ![0, 1] xy slices_S2000000x2_S2000000x1_0_1) shapeCasts_S2000000x1_S2000000))) (broadcastInDim S2000000x5 ![0, 1] bcast_S1x5_S2000000x5_0_1 (broadcastInDim S1x5 ![1] bcast_S5_S1x5_1 ex)))))) (constant S_ .f32 0x00000000#32) reducesTo_S2000000x3x5_S2000000x3_d2 h_S_

theorem partY_apply (T : FVec Ideal S2000000x3x5x2 .f32) (xy : FVec Ideal S2000000x2 .f32) (ex : FVec Ideal S5 .f32)
    (p : Fin 2000000) (ch : Fin 3) :
    partY T xy ex (ix2 p ch) = ∑ j : Fin 5, (T (ix4 p ch j 1) : EReal) * Ideal.pow (xy (ix2 p 1)) (ex (ix1 j)) := by
  unfold partY
  pointwise

/-- The pixel at strip `t`, sublane `s`, lane `l`. -/
def pixel (t : Fin 25) (s : Fin 5) (l : Fin 16000) : Fin 2000000 := ⟨t.val * 80000 + s.val * 16000 + l.val, by omega⟩

/-- Three summands added, the channel axis put first, the pixels split into strips. -/
def strips (a b e : FVec Ideal S2000000x3 .f32) : FVec Ideal S3x25x5x16000 .f32 :=
  shapeCast S3x25x5x16000 (transpose S3x2000000 [1, 0] (addf (addf a b) e) transposes_S2000000x3_S3x2000000_1_0) shapeCasts_S3x2000000_S3x25x5x16000

theorem strips_apply (a b e : FVec Ideal S2000000x3 .f32) (ch : Fin 3) (t : Fin 25) (s : Fin 5) (l : Fin 16000) :
    strips a b e (ix4 ch t s l) = ((a (ix2 (pixel t s l) ch) : EReal) + b (ix2 (pixel t s l) ch)) + e (ix2 (pixel t s l) ch) := by
  unfold strips pixel
  pointwise

end Cert.Strip.Ref

end
-- ==== Proof.RefValue.lean ====
/-
  The reference program's result, read at an index.
-/
module

public import proofs.«01_k».proof.Proof.Gen.ReferenceIdeal.Run
public import proofs.«01_k».proof.Proof.Words
public import proofs.«01_k».proof.Proof.Lookup
public import proofs.«01_k».proof.Proof.RefParts
public import Idealize.ShloMosaic.Lib.Pointwise
public import Idealize.ShloMosaic.Lib.Tactic.CleanTypes

@[expose] public section

set_option maxRecDepth 16384

noncomputable section

namespace Cert.Strip.Ref

open Cert.ReferenceIdeal Cert.ReferenceIdeal.Gen Cert.ReferenceIdeal.Value Idealize.ShloMosaic Idealize.ShloMosaic.TcCoe Idealize.SL.Sem
open Idealize.ShloMosaic.StableHlo

variable (V0 : Valuation τ sig (Elt Ideal))

/-- The image row word of pixel `p`. -/
theorem row_apply (p : Fin 2000000) : res_main_v16 V0 (ix1 p) = BitVec.ofNat 32 (p.val / 2000) :=
  floorDiv_host _ _ _ _ _ _ rfl rfl (sign_pos (n := 2000) (by decide) (by decide) (constantI S_ 32 2000#32) _ rfl) rfl
    (by omega) (by decide) (by decide)

/-- The image column word of pixel `p`. -/
theorem col_apply (p : Fin 2000000) : res_main_v17 V0 (ix1 p) = BitVec.ofNat 32 (p.val % 2000) :=
  rem_host _ _ _ _ _ _ rfl rfl rfl rfl (by omega) (by decide) (by decide)

/-- The patch word of pixel `p`. -/
theorem patch_apply (p : Fin 2000000) :
    res_main_v22 V0 (ix1 p) = BitVec.ofNat 32 (p.val / 2000 / 20 * 100 + p.val % 2000 / 20) := by
  have a := floorDiv_host (res_main_v16 V0) (broadcastInDim S2000000 ![] bcast_S_S2000000 (res_main_call2_v0 V0))
    (broadcastInDim S2000000 ![] bcast_S_S2000000 (constantI S_ 32 1#32)) (broadcastInDim S2000000 ![] bcast_S_S2000000 (constantI S_ 32 0#32))
    (broadcastInDim S2000000 ![] bcast_S_S2000000 (signi (res_main_call2_v0 V0))) (ix1 p) (row_apply V0 p) rfl
    (sign_pos (n := 20) (by decide) (by decide) (constantI S_ 32 20#32) _ rfl) rfl (by omega) (by decide) (by decide)
  have b := floorDiv_host (res_main_v17 V0) (broadcastInDim S2000000 ![] bcast_S_S2000000 (res_main_call3_v0 V0))
    (broadcastInDim S2000000 ![] bcast_S_S2000000 (constantI S_ 32 1#32)) (broadcastInDim S2000000 ![] bcast_S_S2000000 (constantI S_ 32 0#32))
    (broadcastInDim S2000000 ![] bcast_S_S2000000 (signi (res_main_call3_v0 V0))) (ix1 p) (col_apply V0 p) rfl
    (sign_pos (n := 20) (by decide) (by decide) (constantI S_ 32 20#32) _ rfl) rfl (by omega) (by decide) (by decide)
  refine (congrArg₂ (fun x y : BitVec 32 => x * 100#32 + y) a b).trans ?_
  rw [BitVec.ofNat_add, BitVec.ofNat_mul]

/-- The wrapped index is the patch word itself: it is not negative. -/
theorem index_apply (p : Fin 2000000) (u : Fin 1) :
    res_main_call4_v5 V0 (ix2 p u) = BitVec.ofNat 32 (p.val / 2000 / 20 * 100 + p.val % 2000 / 20) := by
  unfold res_main_call4_v5
  pointwise
  rw [patch_apply, cmpi_slt_zero (by omega)]
  rfl

/-- The two index arrays of the two lookups are one. -/
theorem index_eq : res_main_call5_v5 V0 = res_main_call4_v5 V0 := rfl

/-- The patch of pixel `p`. -/
def patch (p : Fin 2000000) : Fin 5000 := ⟨p.val / 2000 / 20 * 100 + p.val % 2000 / 20, by omega⟩

/-- Clamping does not move the patch word. -/
theorem clamp (p : Fin 2000000) (h : min (res_main_call4_v5 V0 (ix2 p 0)).toInt.toNat 4999 < 5000) :
    (⟨min (res_main_call4_v5 V0 (ix2 p 0)).toInt.toNat 4999, h⟩ : Fin 5000) = patch p := by
  apply Fin.ext
  show min (res_main_call4_v5 V0 (ix2 p 0)).toInt.toNat 4999 = p.val / 2000 / 20 * 100 + p.val % 2000 / 20
  rw [index_apply, WordCmp.toInt_ofNat_of_lt (w := 32) (by simp only [Nat.reduceSub, Nat.reducePow]; omega)]
  omega

/-- The in-range test of a lookup holds at every pixel. -/
theorem inRange (p : Fin 2000000) :
    (Finset.fold IntOp.andi (1#1) (fun x : Fin 1 =>
      IntOp.andi (IntOp.cmpi .sge (res_main_call4_v5 V0 (ix2 p x)) 0#32) (IntOp.cmpi .sle (res_main_call4_v5 V0 (ix2 p x)) 4999#32))
      Finset.univ) = 1#1 := by
  rw [show (Finset.univ : Finset (Fin 1)) = {0} from rfl, Finset.fold_singleton, index_apply]
  have h : p.val / 2000 / 20 * 100 + p.val % 2000 / 20 < 5000 := (patch p).isLt
  generalize p.val / 2000 / 20 * 100 + p.val % 2000 / 20 = n at h
  simp (disch := omega) only [hlo_ix]
  rw [decide_eq_true (Nat.zero_le n), decide_eq_true (by omega : n ≤ 4999)]
  rfl

/-- The looked-up coefficients at an index. -/
theorem taken_apply (p : Fin 2000000) (ch : Fin 3) (j : Fin 5) (d : Fin 2) :
    res_main_v23 V0 (ix4 p ch j d) = V0 (Proc.devRef .tc main_arg1) (ix4 (patch p) ch j d) := by
  unfold res_main_v23
  clean_types
  pointwise
  rw [inRange, gather_coef, clamp]
  rfl

/-- The looked-up biases. -/
def bias : S2000000x3.Idx → EReal :=
  select (broadcastInDim S2000000x3 ![0] bcast_S2000000_S2000000x3_0 (Host.reduce IntOp.andi (andi (cmpi .sge (res_main_call5_v5 V0) (broadcastInDim S2000000x1 ![] bcast_S_S2000000x1 (constantI S_ 32 0#32))) (cmpi .sle (res_main_call5_v5 V0) (broadcastInDim S2000000x1 ![0, 1] bcast_S1x1_S2000000x1_0_1 (broadcastInDim S1x1 ![1] bcast_S1_S1x1_1 (constantI S1 32 4999#32))))) (constantI S_ 1 1#1) reducesTo_S2000000x1_S2000000_d1 h_S_)) (Host.gather gather_S5000x3_S2000000x1_S2000000x3_1_0_n_n_0_1_13 (V0 (Proc.devRef .tc main_arg2)) (res_main_call5_v5 V0)) (broadcastInDim S2000000x3 ![] bcast_S_S2000000x3 (constant (F := Ideal) S_ .f32 0x7FC00000#32))

theorem bias_apply (p : Fin 2000000) (ch : Fin 3) : bias V0 (ix2 p ch) = V0 (Proc.devRef .tc main_arg2) (ix2 (patch p) ch) := by
  unfold bias
  rw [index_eq]
  clean_types
  pointwise
  rw [inRange, gather_bias, clamp]
  rfl

/-- The exponents: 0 to 4, as reals. -/
theorem exps_apply (j : Fin 5) : res_main_v0 V0 (ix1 j) = (((j.val : ℕ) : ℝ) : EReal) := by
  show ((((BitVec.ofNat 32 j.val).toInt : ℤ) : ℝ) : EReal) = _
  rw [WordCmp.toInt_ofNat_of_lt (w := 32) (a := j.val) (by simp only [Nat.reduceSub, Nat.reducePow]; omega)]
  norm_cast

/-- The reference's result as its run states it. -/
def result : FVec Ideal S3x25x5x16000 .f32 :=
  strips (partX (res_main_v23 V0) (V0 (Proc.devRef .tc main_arg0)) (res_main_v0 V0))
    (partY (res_main_v23 V0) (V0 (Proc.devRef .tc main_arg0)) (res_main_v0 V0)) (bias V0)

/-- One coordinate's sum: coefficient times power, over the five degrees, at the pixel's patch. -/
def powers (xy : S2000000x2.Idx → EReal) (co : S5000x3x5x2.Idx → EReal) (d : Fin 2) (p : Fin 2000000) (ch : Fin 3) : EReal :=
  ∑ j : Fin 5, co (ix4 (patch p) ch j d) * Ideal.pow (xy (ix2 p d)) (((j.val : ℕ) : ℝ) : EReal)

/-- The reference's value of channel `ch` at pixel `p`. -/
def value (xy : S2000000x2.Idx → EReal) (co : S5000x3x5x2.Idx → EReal) (bi : S5000x3.Idx → EReal) (ch : Fin 3) (p : Fin 2000000) : EReal :=
  powers xy co 0 p ch + powers xy co 1 p ch + bi (ix2 (patch p) ch)

theorem result_apply (ch : Fin 3) (t : Fin 25) (s : Fin 5) (l : Fin 16000) :
    result V0 (ix4 ch t s l) = value (V0 (Proc.devRef .tc main_arg0)) (V0 (Proc.devRef .tc main_arg1))
      (V0 (Proc.devRef .tc main_arg2)) ch (pixel t s l) := by
  refine (strips_apply _ _ _ ch t s l).trans ?_
  rw [partX_apply, partY_apply, bias_apply]
  unfold value powers
  refine congrArg₂ (· + ·) (congrArg₂ (· + ·) (Finset.sum_congr rfl fun j _ => ?_) (Finset.sum_congr rfl fun j _ => ?_)) rfl
  · rw [taken_apply, exps_apply]
  · rw [taken_apply, exps_apply]

end Cert.Strip.Ref

end
-- ==== Proof.Poly.lean ====
/-
  The kernel's Horner form and the reference's sum of powers agree at real coordinates and coefficients.
-/
module

public import proofs.«01_k».proof.Proof.Body

@[expose] public section

noncomputable section

namespace Cert.Strip

open Idealize.ShloMosaic

/-- The real power of degree `j`, as the ideal power of an exponent that is the real `j`. -/
theorem pow_nat (x : ℝ) (j : ℕ) : Ideal.pow (x : EReal) ((j : ℝ) : EReal) = ((x ^ j : ℝ) : EReal) := by
  rw [Ideal.pow_coe_coe]
  exact congrArg _ (Real.rpow_natCast x j)

/-- One coordinate's sum of powers, as a real. -/
theorem sum_powers (c : Fin 5 → ℝ) (x : ℝ) :
    ∑ j : Fin 5, (c j : EReal) * Ideal.pow (x : EReal) (((j.val : ℕ) : ℝ) : EReal)
      = ((c 0 + c 1 * x + c 2 * x ^ 2 + c 3 * x ^ 3 + c 4 * x ^ 4 : ℝ) : EReal) := by
  simp only [pow_nat, ← EReal.coe_mul, Fin.sum_univ_five, ← EReal.coe_add]
  congr 1
  show c 0 * x ^ 0 + c 1 * x ^ 1 + c 2 * x ^ 2 + c 3 * x ^ 3 + c 4 * x ^ 4 = _
  ring

/-- One Horner chain, as a real. -/
theorem chain (c : Fin 5 → ℝ) (x : ℝ) :
    ((((c 4 : EReal) * x + c 3) * x + c 2) * x + c 1) * x + c 0
      = ((c 0 + c 1 * x + c 2 * x ^ 2 + c 3 * x ^ 3 + c 4 * x ^ 4 : ℝ) : EReal) := by
  simp only [← EReal.coe_mul, ← EReal.coe_add]
  congr 1
  ring

/-- The kernel's polynomial is both sums of powers and the bias, whatever the bias. -/
theorem horner_eq (w : Fin 11 → EReal) (a b : Fin 5 → ℝ) (x y : ℝ)
    (ha : ∀ j : Fin 5, w ⟨j.val, by omega⟩ = a j) (hb : ∀ j : Fin 5, w ⟨5 + j.val, by omega⟩ = b j) :
    horner w x y = (∑ j : Fin 5, (a j : EReal) * Ideal.pow (x : EReal) (((j.val : ℕ) : ℝ) : EReal))
      + (∑ j : Fin 5, (b j : EReal) * Ideal.pow (y : EReal) (((j.val : ℕ) : ℝ) : EReal)) + w 10 := by
  rw [sum_powers, sum_powers, ← chain, ← chain, ← ha 0, ← ha 1, ← ha 2, ← ha 3, ← ha 4, ← hb 0, ← hb 1, ← hb 2, ← hb 3, ← hb 4]
  rfl

end Cert.Strip

end
-- ==== Proof.Equal.lean ====
/-
  The kernel's result array is the reference's, when coordinates and coefficients are real.
-/
module

public import proofs.«01_k».proof.Proof.Blocks
public import proofs.«01_k».proof.Proof.RefValue
public import proofs.«01_k».proof.Proof.Poly

@[expose] public section

noncomputable section

namespace Cert.Strip

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (c : Dev nD)

/-- The kernel's value of a pixel is the reference's, at real coordinates and coefficients and any bias. -/
theorem kernelVal_eq (xy : S2000000x2.Idx → EReal) (co : S5000x3x5x2.Idx → EReal) (bi : S5000x3.Idx → EReal)
    (hxy : m ((c : Thread nD τ).loc main_arg0) = xy) (hco : m ((c : Thread nD τ).loc main_arg1) = co)
    (hbi : m ((c : Thread nD τ).loc main_arg2) = bi)
    (rxy : ∀ i, ∃ r : ℝ, xy i = r) (rco : ∀ i, ∃ r : ℝ, co i = r) (ch : Fin 3) (p : Fin 2000000) :
    kernelVal m c ch p = Ref.value xy co bi ch p := by
  choose fxy hfxy using rxy
  choose fco hfco using rco
  unfold kernelVal Ref.value Ref.powers
  rw [hxy, hfxy, hfxy, horner_eq _ (fun j => fco (ix4 (patch p) ch j 0)) (fun j => fco (ix4 (patch p) ch j 1)),
    joined_bias, hbi]
  · simp only [hfco]
    rfl
  · intro j
    rw [joined_x, hco, hfco]
  · intro j
    rw [joined_y, hco, hfco]

/-- The two result arrays are equal. -/
theorem arrays_eq (V0 : Valuation Cert.ReferenceIdeal.τ Cert.ReferenceIdeal.sig (Elt Ideal))
    (xy : S2000000x2.Idx → EReal) (co : S5000x3x5x2.Idx → EReal) (bi : S5000x3.Idx → EReal)
    (hxy : m ((c : Thread nD τ).loc main_arg0) = xy) (hco : m ((c : Thread nD τ).loc main_arg1) = co)
    (hbi : m ((c : Thread nD τ).loc main_arg2) = bi)
    (gxy : V0 (Proc.devRef .tc Cert.ReferenceIdeal.main_arg0) = xy) (gco : V0 (Proc.devRef .tc Cert.ReferenceIdeal.main_arg1) = co)
    (gbi : V0 (Proc.devRef .tc Cert.ReferenceIdeal.main_arg2) = bi)
    (rxy : ∀ i, ∃ r : ℝ, xy i = r) (rco : ∀ i, ∃ r : ℝ, co i = r) :
    Ref.result V0 = (dats m 0 c).arrAt 3 cfg0.N := by
  rw [arr_eq]
  funext i
  refine (congrArg (Ref.result V0) (eq_ix4 i)).trans ((Ref.result_apply V0 (i 0) (i 1) (i 2) (i 3)).trans ?_)
  rw [gxy, gco, gbi]
  exact (kernelVal_eq m c xy co bi hxy hco hbi rxy rco (i 0) (pixel (i 1) (i 2) (i 3))).symm

end Cert.Strip

end
-- ==== Proof.lean ====
/-
  The claims, assembled: the three frames, the idealization, and the value claim under the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Pre
public import proofs.«01_k».proof.Proof.Equal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference's frame: its run leaves the arguments, and it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- The value claim: under the precondition the kernel's array of results is the reference's. -/
theorem algebraic : Cert.algebraic_KernelIdeal_ReferenceIdeal_pre_finite := by
  intro m g m' g' hpre hagree
  refine ⟨fun c => (Cert.KernelIdeal.Gen.dats m 0 c).arrAt 3 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  obtain ⟨rxy, rco⟩ := Cert.Strip.real_of_pre _ _ _ (hpre c)
  exact Cert.Strip.arrays_eq m c (StableHlo.launchContents m' c) _ _ _ rfl rfl rfl (hagree c).1 (hagree c).2.1 (hagree c).2.2 rxy rco

theorem claim : Cert.Claim :=
  ⟨Cert.Kernel.Gen.facts, Cert.KernelIdeal.Gen.facts, Cert.ReferenceIdeal.Gen.facts, Cert.Strip.preFacts,
    fun m ρ _ => Cert.Kernel.Gen.frame m ρ, fun m ρ _ => Cert.KernelIdeal.Gen.frame m ρ, fun m ρ _ => Cert.KernelIdeal.Gen.frame m ρ,
    fun m ρ _ => frame_reference m ρ, fun m ρ _ => frame_reference m ρ, trivial, algebraic⟩

end Cert.Proof

end
